-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x14336x4096 : Shape := ⟨3, ![3, 14336, 4096]⟩
abbrev S3x112x8192 : Shape := ⟨3, ![3, 112, 8192]⟩
abbrev S3x8192x7168 : Shape := ⟨3, ![3, 8192, 7168]⟩
abbrev S3x8192x112 : Shape := ⟨3, ![3, 8192, 112]⟩
abbrev S1x3584x1024 : Shape := ⟨3, ![1, 3584, 1024]⟩
abbrev S1x112x512 : Shape := ⟨3, ![1, 112, 512]⟩
abbrev S1x2048x1792 : Shape := ⟨3, ![1, 2048, 1792]⟩
abbrev S1x512x112 : Shape := ⟨3, ![1, 512, 112]⟩
abbrev S1x256x128 : Shape := ⟨3, ![1, 256, 128]⟩
abbrev S256x128 : Shape := ⟨2, ![256, 128]⟩
abbrev S64x128 : Shape := ⟨2, ![64, 128]⟩
abbrev S128x128 : Shape := ⟨2, ![128, 128]⟩
abbrev S112x512 : Shape := ⟨2, ![112, 512]⟩
abbrev S512x112 : Shape := ⟨2, ![512, 112]⟩

abbrev nBuf : Space → Nat
  | .hbm => 4
  | .vmem => 8
  | .smem => 0
  | _ => 0

abbrev bufTy : (tb : Table) → Fin (tcTables nBuf tb) → BufTy
  | .hbm, ⟨0, _⟩ => ⟨S3x14336x4096, .i8⟩
  | .hbm, ⟨1, _⟩ => ⟨S3x112x8192, .f32⟩
  | .hbm, ⟨2, _⟩ => ⟨S3x8192x7168, .i8⟩
  | .hbm, ⟨3, _⟩ => ⟨S3x8192x112, .f32⟩
  | .local _ .vmem, ⟨0, _⟩ => ⟨S1x3584x1024, .i8⟩
  | .local _ .vmem, ⟨1, _⟩ => ⟨S1x3584x1024, .i8⟩
  | .local _ .vmem, ⟨2, _⟩ => ⟨S1x112x512, .f32⟩
  | .local _ .vmem, ⟨3, _⟩ => ⟨S1x112x512, .f32⟩
  | .local _ .vmem, ⟨4, _⟩ => ⟨S1x2048x1792, .i8⟩
  | .local _ .vmem, ⟨5, _⟩ => ⟨S1x2048x1792, .i8⟩
  | .local _ .vmem, ⟨6, _⟩ => ⟨S1x512x112, .f32⟩
  | .local _ .vmem, ⟨7, _⟩ => ⟨S1x512x112, .f32⟩
  | _, _ => ⟨S3x14336x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 4], ![false, false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c128_i32 : BitVec 32 := 128#32
  let v9 : BitVec 32 := Scalar.muli v8 c128_i32
  v9
def k0_mult2 (k0_t1 : Fin k0_t1_loop.trips) : BitVec 32 :=
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c2_i32 : BitVec 32 := 2#32
  let v11 : BitVec 32 := Scalar.muli v8 c2_i32
  let c128_i32_8 : BitVec 32 := 128#32
  let v12 : BitVec 32 := Scalar.muli v11 c128_i32_8
  v12
def k0_off1 (k0_t1 : Fin k0_t1_loop.trips) : Fin 3 → Nat :=
  let c0_9 : Index := 0#32
  let c0_10 : Index := 0#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c128_i32 : BitVec 32 := 128#32
  let v9 : BitVec 32 := Scalar.muli v8 c128_i32
  let v10 : BitVec 32 := v9
  let v14 : Index := Scalar.indexCast v10
  ![0, 0, v14.toNat]
def k0_off2 (k0_t1 : Fin k0_t1_loop.trips) : Fin 3 → Nat :=
  let c0_12 : Index := 0#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c2_i32 : BitVec 32 := 2#32
  let v11 : BitVec 32 := Scalar.muli v8 c2_i32
  let c128_i32_8 : BitVec 32 := 128#32
  let v12 : BitVec 32 := Scalar.muli v11 c128_i32_8
  let v13 : BitVec 32 := v12
  let v31 : Index := Scalar.indexCast v13
  let c0_13 : Index := 0#32
  ![0, v31.toNat, 0]
def k0_off3 (k0_t1 : Fin k0_t1_loop.trips) : Fin 3 → Nat :=
  let c0_14 : Index := 0#32
  let c256 : Index := 256#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c128_i32 : BitVec 32 := 128#32
  let v9 : BitVec 32 := Scalar.muli v8 c128_i32
  let v10 : BitVec 32 := v9
  let v35 : Index := Scalar.indexCast v10
  ![0, 256, v35.toNat]
def k0_off4 (k0_t1 : Fin k0_t1_loop.trips) : Fin 3 → Nat :=
  let c0_18 : Index := 0#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c2_i32 : BitVec 32 := 2#32
  let v11 : BitVec 32 := Scalar.muli v8 c2_i32
  let c128_i32_8 : BitVec 32 := 128#32
  let v12 : BitVec 32 := Scalar.muli v11 c128_i32_8
  let v13 : BitVec 32 := v12
  let v52 : Index := Scalar.indexCast v13
  let c128 : Index := 128#32
  ![0, v52.toNat, 128]
def k0_off5 (k0_t1 : Fin k0_t1_loop.trips) : Fin 3 → Nat :=
  let c0_19 : Index := 0#32
  let c512 : Index := 512#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c128_i32 : BitVec 32 := 128#32
  let v9 : BitVec 32 := Scalar.muli v8 c128_i32
  let v10 : BitVec 32 := v9
  let v56 : Index := Scalar.indexCast v10
  ![0, 512, v56.toNat]
def k0_off6 (k0_t1 : Fin k0_t1_loop.trips) : Fin 3 → Nat :=
  let c0_23 : Index := 0#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c2_i32 : BitVec 32 := 2#32
  let v11 : BitVec 32 := Scalar.muli v8 c2_i32
  let c128_i32_8 : BitVec 32 := 128#32
  let v12 : BitVec 32 := Scalar.muli v11 c128_i32_8
  let v13 : BitVec 32 := v12
  let v73 : Index := Scalar.indexCast v13
  let c256_24 : Index := 256#32
  ![0, v73.toNat, 256]
def k0_off7 (k0_t1 : Fin k0_t1_loop.trips) : Fin 3 → Nat :=
  let c0_25 : Index := 0#32
  let c768 : Index := 768#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c128_i32 : BitVec 32 := 128#32
  let v9 : BitVec 32 := Scalar.muli v8 c128_i32
  let v10 : BitVec 32 := v9
  let v77 : Index := Scalar.indexCast v10
  ![0, 768, v77.toNat]
def k0_off8 (k0_t1 : Fin k0_t1_loop.trips) : Fin 3 → Nat :=
  let c0_29 : Index := 0#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c2_i32 : BitVec 32 := 2#32
  let v11 : BitVec 32 := Scalar.muli v8 c2_i32
  let c128_i32_8 : BitVec 32 := 128#32
  let v12 : BitVec 32 := Scalar.muli v11 c128_i32_8
  let v13 : BitVec 32 := v12
  let v94 : Index := Scalar.indexCast v13
  let c384 : Index := 384#32
  ![0, v94.toNat, 384]
def k0_off9 (k0_t1 : Fin k0_t1_loop.trips) : Fin 3 → Nat :=
  let c0_30 : Index := 0#32
  let c1024 : Index := 1024#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c128_i32 : BitVec 32 := 128#32
  let v9 : BitVec 32 := Scalar.muli v8 c128_i32
  let v10 : BitVec 32 := v9
  let v98 : Index := Scalar.indexCast v10
  ![0, 1024, v98.toNat]
def k0_off10 (k0_t1 : Fin k0_t1_loop.trips) : Fin 3 → Nat :=
  let c0_34 : Index := 0#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c2_i32 : BitVec 32 := 2#32
  let v11 : BitVec 32 := Scalar.muli v8 c2_i32
  let c128_i32_8 : BitVec 32 := 128#32
  let v12 : BitVec 32 := Scalar.muli v11 c128_i32_8
  let v13 : BitVec 32 := v12
  let v115 : Index := Scalar.indexCast v13
  let c512_35 : Index := 512#32
  ![0, v115.toNat, 512]
def k0_off11 (k0_t1 : Fin k0_t1_loop.trips) : Fin 3 → Nat :=
  let c0_36 : Index := 0#32
  let c1280 : Index := 1280#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c128_i32 : BitVec 32 := 128#32
  let v9 : BitVec 32 := Scalar.muli v8 c128_i32
  let v10 : BitVec 32 := v9
  let v119 : Index := Scalar.indexCast v10
  ![0, 1280, v119.toNat]
def k0_off12 (k0_t1 : Fin k0_t1_loop.trips) : Fin 3 → Nat :=
  let c0_40 : Index := 0#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c2_i32 : BitVec 32 := 2#32
  let v11 : BitVec 32 := Scalar.muli v8 c2_i32
  let c128_i32_8 : BitVec 32 := 128#32
  let v12 : BitVec 32 := Scalar.muli v11 c128_i32_8
  let v13 : BitVec 32 := v12
  let v136 : Index := Scalar.indexCast v13
  let c640 : Index := 640#32
  ![0, v136.toNat, 640]
def k0_off13 (k0_t1 : Fin k0_t1_loop.trips) : Fin 3 → Nat :=
  let c0_41 : Index := 0#32
  let c1536 : Index := 1536#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c128_i32 : BitVec 32 := 128#32
  let v9 : BitVec 32 := Scalar.muli v8 c128_i32
  let v10 : BitVec 32 := v9
  let v140 : Index := Scalar.indexCast v10
  ![0, 1536, v140.toNat]
def k0_off14 (k0_t1 : Fin k0_t1_loop.trips) : Fin 3 → Nat :=
  let c0_45 : Index := 0#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c2_i32 : BitVec 32 := 2#32
  let v11 : BitVec 32 := Scalar.muli v8 c2_i32
  let c128_i32_8 : BitVec 32 := 128#32
  let v12 : BitVec 32 := Scalar.muli v11 c128_i32_8
  let v13 : BitVec 32 := v12
  let v157 : Index := Scalar.indexCast v13
  let c768_46 : Index := 768#32
  ![0, v157.toNat, 768]
def k0_off15 (k0_t1 : Fin k0_t1_loop.trips) : Fin 3 → Nat :=
  let c0_47 : Index := 0#32
  let c1792 : Index := 1792#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c128_i32 : BitVec 32 := 128#32
  let v9 : BitVec 32 := Scalar.muli v8 c128_i32
  let v10 : BitVec 32 := v9
  let v161 : Index := Scalar.indexCast v10
  ![0, 1792, v161.toNat]
def k0_off16 (k0_t1 : Fin k0_t1_loop.trips) : Fin 3 → Nat :=
  let c0_51 : Index := 0#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c2_i32 : BitVec 32 := 2#32
  let v11 : BitVec 32 := Scalar.muli v8 c2_i32
  let c128_i32_8 : BitVec 32 := 128#32
  let v12 : BitVec 32 := Scalar.muli v11 c128_i32_8
  let v13 : BitVec 32 := v12
  let v178 : Index := Scalar.indexCast v13
  let c896 : Index := 896#32
  ![0, v178.toNat, 896]
def k0_off17 (k0_t1 : Fin k0_t1_loop.trips) : Fin 3 → Nat :=
  let c0_52 : Index := 0#32
  let c2048 : Index := 2048#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c128_i32 : BitVec 32 := 128#32
  let v9 : BitVec 32 := Scalar.muli v8 c128_i32
  let v10 : BitVec 32 := v9
  let v182 : Index := Scalar.indexCast v10
  ![0, 2048, v182.toNat]
def k0_off18 (k0_t1 : Fin k0_t1_loop.trips) : Fin 3 → Nat :=
  let c0_56 : Index := 0#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c2_i32 : BitVec 32 := 2#32
  let v11 : BitVec 32 := Scalar.muli v8 c2_i32
  let c128_i32_8 : BitVec 32 := 128#32
  let v12 : BitVec 32 := Scalar.muli v11 c128_i32_8
  let v13 : BitVec 32 := v12
  let v199 : Index := Scalar.indexCast v13
  let c1024_57 : Index := 1024#32
  ![0, v199.toNat, 1024]
def k0_off19 (k0_t1 : Fin k0_t1_loop.trips) : Fin 3 → Nat :=
  let c0_58 : Index := 0#32
  let c2304 : Index := 2304#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c128_i32 : BitVec 32 := 128#32
  let v9 : BitVec 32 := Scalar.muli v8 c128_i32
  let v10 : BitVec 32 := v9
  let v203 : Index := Scalar.indexCast v10
  ![0, 2304, v203.toNat]
def k0_off20 (k0_t1 : Fin k0_t1_loop.trips) : Fin 3 → Nat :=
  let c0_62 : Index := 0#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c2_i32 : BitVec 32 := 2#32
  let v11 : BitVec 32 := Scalar.muli v8 c2_i32
  let c128_i32_8 : BitVec 32 := 128#32
  let v12 : BitVec 32 := Scalar.muli v11 c128_i32_8
  let v13 : BitVec 32 := v12
  let v220 : Index := Scalar.indexCast v13
  let c1152 : Index := 1152#32
  ![0, v220.toNat, 1152]
def k0_off21 (k0_t1 : Fin k0_t1_loop.trips) : Fin 3 → Nat :=
  let c0_63 : Index := 0#32
  let c2560 : Index := 2560#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c128_i32 : BitVec 32 := 128#32
  let v9 : BitVec 32 := Scalar.muli v8 c128_i32
  let v10 : BitVec 32 := v9
  let v224 : Index := Scalar.indexCast v10
  ![0, 2560, v224.toNat]
def k0_off22 (k0_t1 : Fin k0_t1_loop.trips) : Fin 3 → Nat :=
  let c0_67 : Index := 0#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c2_i32 : BitVec 32 := 2#32
  let v11 : BitVec 32 := Scalar.muli v8 c2_i32
  let c128_i32_8 : BitVec 32 := 128#32
  let v12 : BitVec 32 := Scalar.muli v11 c128_i32_8
  let v13 : BitVec 32 := v12
  let v241 : Index := Scalar.indexCast v13
  let c1280_68 : Index := 1280#32
  ![0, v241.toNat, 1280]
def k0_off23 (k0_t1 : Fin k0_t1_loop.trips) : Fin 3 → Nat :=
  let c0_69 : Index := 0#32
  let c2816 : Index := 2816#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c128_i32 : BitVec 32 := 128#32
  let v9 : BitVec 32 := Scalar.muli v8 c128_i32
  let v10 : BitVec 32 := v9
  let v245 : Index := Scalar.indexCast v10
  ![0, 2816, v245.toNat]
def k0_off24 (k0_t1 : Fin k0_t1_loop.trips) : Fin 3 → Nat :=
  let c0_73 : Index := 0#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c2_i32 : BitVec 32 := 2#32
  let v11 : BitVec 32 := Scalar.muli v8 c2_i32
  let c128_i32_8 : BitVec 32 := 128#32
  let v12 : BitVec 32 := Scalar.muli v11 c128_i32_8
  let v13 : BitVec 32 := v12
  let v262 : Index := Scalar.indexCast v13
  let c1408 : Index := 1408#32
  ![0, v262.toNat, 1408]
def k0_off25 (k0_t1 : Fin k0_t1_loop.trips) : Fin 3 → Nat :=
  let c0_74 : Index := 0#32
  let c3072 : Index := 3072#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c128_i32 : BitVec 32 := 128#32
  let v9 : BitVec 32 := Scalar.muli v8 c128_i32
  let v10 : BitVec 32 := v9
  let v266 : Index := Scalar.indexCast v10
  ![0, 3072, v266.toNat]
def k0_off26 (k0_t1 : Fin k0_t1_loop.trips) : Fin 3 → Nat :=
  let c0_78 : Index := 0#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c2_i32 : BitVec 32 := 2#32
  let v11 : BitVec 32 := Scalar.muli v8 c2_i32
  let c128_i32_8 : BitVec 32 := 128#32
  let v12 : BitVec 32 := Scalar.muli v11 c128_i32_8
  let v13 : BitVec 32 := v12
  let v283 : Index := Scalar.indexCast v13
  let c1536_79 : Index := 1536#32
  ![0, v283.toNat, 1536]
def k0_off27 (k0_t1 : Fin k0_t1_loop.trips) : Fin 3 → Nat :=
  let c0_80 : Index := 0#32
  let c3328 : Index := 3328#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c128_i32 : BitVec 32 := 128#32
  let v9 : BitVec 32 := Scalar.muli v8 c128_i32
  let v10 : BitVec 32 := v9
  let v287 : Index := Scalar.indexCast v10
  ![0, 3328, v287.toNat]
def k0_off28 (k0_t1 : Fin k0_t1_loop.trips) : Fin 3 → Nat :=
  let c0_84 : Index := 0#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v7 : BitVec 32 := Scalar.muli arg7 c1_i32_6
  let v8 : BitVec 32 := Scalar.addi c0_i32_7 v7
  let c2_i32 : BitVec 32 := 2#32
  let v11 : BitVec 32 := Scalar.muli v8 c2_i32
  let c128_i32_8 : BitVec 32 := 128#32
  let v12 : BitVec 32 := Scalar.muli v11 c128_i32_8
  let v13 : BitVec 32 := v12
  let v304 : Index := Scalar.indexCast v13
  let c1664 : Index := 1664#32
  ![0, v304.toNat, 1664]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x3584x1024 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x112x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x1792 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x112 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S3x14336x4096 : Shape := ⟨3, ![3, 14336, 4096]⟩
abbrev S3x112x8192 : Shape := ⟨3, ![3, 112, 8192]⟩
abbrev S_ : Shape := ⟨0, ![]⟩
abbrev S3x7168x2x4096 : Shape := ⟨4, ![3, 7168, 2, 4096]⟩
abbrev S3x7168x1x4096 : Shape := ⟨4, ![3, 7168, 1, 4096]⟩
abbrev S3x7168x4096 : Shape := ⟨3, ![3, 7168, 4096]⟩
abbrev S3x7168x4096x1 : Shape := ⟨4, ![3, 7168, 4096, 1]⟩
abbrev S3x7168x4096x2 : Shape := ⟨4, ![3, 7168, 4096, 2]⟩
abbrev S3x4096x2x7168 : Shape := ⟨4, ![3, 4096, 2, 7168]⟩
abbrev S3x8192x7168 : Shape := ⟨3, ![3, 8192, 7168]⟩
abbrev S3x8192x112 : Shape := ⟨3, ![3, 8192, 112]⟩

abbrev nBuf : Space → Nat
  | .hbm => 34
  | .vmem => 0
  | .smem => 0
  | _ => 0

abbrev bufTy : (tb : Table) → Fin (tcTables nBuf tb) → BufTy
  | .hbm, ⟨0, _⟩ => ⟨S3x14336x4096, .i8⟩
  | .hbm, ⟨1, _⟩ => ⟨S3x112x8192, .f32⟩
  | .hbm, ⟨2, _⟩ => ⟨S3x14336x4096, .i32⟩
  | .hbm, ⟨3, _⟩ => ⟨S_, .i32⟩
  | .hbm, ⟨4, _⟩ => ⟨S3x14336x4096, .i32⟩
  | .hbm, ⟨5, _⟩ => ⟨S3x14336x4096, .i32⟩
  | .hbm, ⟨6, _⟩ => ⟨S3x7168x2x4096, .i32⟩
  | .hbm, ⟨7, _⟩ => ⟨S_, .i32⟩
  | .hbm, ⟨8, _⟩ => ⟨S3x14336x4096, .i32⟩
  | .hbm, ⟨9, _⟩ => ⟨S3x14336x4096, .i32⟩
  | .hbm, ⟨10, _⟩ => ⟨S3x7168x2x4096, .i32⟩
  | .hbm, ⟨11, _⟩ => ⟨S3x7168x1x4096, .i32⟩
  | .hbm, ⟨12, _⟩ => ⟨S3x7168x4096, .i32⟩
  | .hbm, ⟨13, _⟩ => ⟨S3x7168x1x4096, .i32⟩
  | .hbm, ⟨14, _⟩ => ⟨S3x7168x4096, .i32⟩
  | .hbm, ⟨15, _⟩ => ⟨S_, .i32⟩
  | .hbm, ⟨16, _⟩ => ⟨S3x7168x4096, .i32⟩
  | .hbm, ⟨17, _⟩ => ⟨S3x7168x4096, .i32⟩
  | .hbm, ⟨18, _⟩ => ⟨S3x7168x4096, .i32⟩
  | .hbm, ⟨19, _⟩ => ⟨S3x7168x1x4096, .i32⟩
  | .hbm, ⟨20, _⟩ => ⟨S3x7168x4096, .i32⟩
  | .hbm, ⟨21, _⟩ => ⟨S3x7168x1x4096, .i32⟩
  | .hbm, ⟨22, _⟩ => ⟨S3x7168x4096, .i32⟩
  | .hbm, ⟨23, _⟩ => ⟨S_, .i32⟩
  | .hbm, ⟨24, _⟩ => ⟨S3x7168x4096, .i32⟩
  | .hbm, ⟨25, _⟩ => ⟨S3x7168x4096, .i32⟩
  | .hbm, ⟨26, _⟩ => ⟨S3x7168x4096, .i32⟩
  | .hbm, ⟨27, _⟩ => ⟨S3x7168x4096x1, .i32⟩
  | .hbm, ⟨28, _⟩ => ⟨S3x7168x4096x1, .i32⟩
  | .hbm, ⟨29, _⟩ => ⟨S3x7168x4096x2, .i32⟩
  | .hbm, ⟨30, _⟩ => ⟨S3x4096x2x7168, .i32⟩
  | .hbm, ⟨31, _⟩ => ⟨S3x8192x7168, .i32⟩
  | .hbm, ⟨32, _⟩ => ⟨S3x8192x7168, .i8⟩
  | .hbm, ⟨33, _⟩ => ⟨S3x8192x112, .f32⟩
  | _, _ => ⟨S3x14336x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Proof.Repack.lean ====
/-
  WHAT ONE TILE COMPUTES, in words and bits.

  A byte holds two 4-bit numbers. The repacked byte takes the same half of two bytes and puts them side by side
  (`pack`). The kernel reaches it on whole 32-bit words: a swap of the middle nibbles of each half word (`swapNibbles`),
  and a transpose of the half words. Both are read here bit by bit.
-/
module

public import proofs.«01_k».proof.Proof.Gen.KernelIdeal.Skeleton
public import Idealize.ShloMosaic.Lib.BitcastFour
public import Idealize.ShloMosaic.Lib.ValueLayout

@[expose] public section

namespace Cert.Repack

open Idealize.ShloMosaic Idealize.ShloMosaic.ValueIdx

/-- Nibble `h` (0 the low one, 1 the high one) of `a` as the low nibble and nibble `h` of `b` as the high nibble of one
byte. -/
def pack (h : Nat) (a b : BitVec 8) : BitVec 8 := ((a >>> (4 * h)) &&& 15#8) ||| ((b >>> (4 * h)) <<< 4)

/-- Bit `i` of the packed byte is bit `4h + i % 4` of `a` for the low nibble, of `b` for the high one. -/
theorem pack_getLsbD (h : Nat) (a b : BitVec 8) (i : Nat) (hi : i < 8) :
    (pack h a b).getLsbD i = (if i < 4 then a else b).getLsbD (4 * h + i % 4) := by
  unfold pack
  simp only [BitVec.getLsbD_or, BitVec.getLsbD_and, BitVec.getLsbD_shiftLeft, BitVec.getLsbD_ushiftRight]
  interval_cases i <;> simp

/-- The kernel's word step: nibbles 1 and 2 swapped, and nibbles 5 and 6, by exclusive or with their difference. -/
def swapNibbles (x : BitVec 32) : BitVec 32 :=
  x ^^^ ((x ^^^ (x >>> 4)) &&& 15728880#32) ^^^ (((x ^^^ (x >>> 4)) &&& 15728880#32) <<< 4)

/-- Bit `q` of the swapped word is the bit of the word with the middle two digits of `q`'s nibble number exchanged:
`q = 16 a + 8 b + 4 c + d` reads bit `16 a + 8 c + 4 b + d`. -/
theorem swapNibbles_getLsbD (x : BitVec 32) (q : Nat) (hq : q < 32) :
    (swapNibbles x).getLsbD q = x.getLsbD (16 * (q / 16) + 8 * (q / 4 % 2) + 4 * (q / 8 % 2) + q % 4) := by
  unfold swapNibbles
  simp only [BitVec.getLsbD_xor, BitVec.getLsbD_and, BitVec.getLsbD_shiftLeft, BitVec.getLsbD_ushiftRight]
  interval_cases q <;> simp <;> rw [Bool.xor_left_comm, Bool.xor_self, Bool.xor_false]

/-- A bit cast of a matrix to elements of another width, at rank 2: bit `q` of the element at row `a` is bit `p` of the
source row `r` of the same lane, where `a` and `q` name the position `w a + q = v r + p` in the lane's bits. -/
theorem bitcast_getLsbD_ix2 {v w R R' n : Nat} (x : (⟨2, ![R, n]⟩ : Shape).Idx → BitVec v)
    (h : (⟨2, ![R, n]⟩ : Shape).Bitcasts v ⟨2, ![R', n]⟩ w) (a : Fin R') (l : Fin n) (q : Nat) (hq : q < w) (hv : 0 < v)
    (r : Fin R) (p : Nat) (hr : r.val = (a.val * w + q) / v) (hp : p = (a.val * w + q) % v) :
    (bitcast ⟨2, ![R', n]⟩ w x h (ix2 a l)).getLsbD q = (x (ix2 r l)).getLsbD p := by
  rw [bitcast_getLsbD x h _ q hq hv]
  subst hp
  congr 2
  funext c
  match c with
  | ⟨0, _⟩ => exact Fin.ext ((h.srcIdx_row _ _ _ ⟨0, Nat.zero_lt_two⟩ rfl).trans hr.symm)
  | ⟨1, _⟩ => exact Fin.ext (h.srcIdx_other _ _ _ ⟨1, Nat.one_lt_two⟩ (Nat.succ_ne_self 2))

end Cert.Repack

namespace Cert.KernelIdeal.Tile

open Cert.KernelIdeal Cert.KernelIdeal.Gen Cert.Repack
open Idealize.ShloMosaic Idealize.ShloMosaic.TcCoe Idealize.ShloMosaic.ValueIdx

variable {F : FTy → Type} [FloatOps F]

/-- A tile repacked, at an index: row `y`, lane `z` of the result packs the nibble `y % 2` of the bytes at rows `2z` and
`2z + 1` of lane `y / 2`. -/
theorem tile_apply (v : Vec F S1x256x128 .i8) (u : Fin 1) (y : Fin 256) (z : Fin 128) :
    k0_pay3 v (ix3 u y z)
      = pack (y.val % 2) (v (ix3 (0 : Fin 1) (⟨2 * z.val, by omega⟩ : Fin 256) (⟨y.val / 2, by omega⟩ : Fin 128)))
          (v (ix3 (0 : Fin 1) (⟨2 * z.val + 1, by omega⟩ : Fin 256) (⟨y.val / 2, by omega⟩ : Fin 128))) := by
  unfold k0_pay3
  dsimp only
  refine (shapeCast_ab_1ab_apply _ _ u y z).trans ?_
  apply BitVec.eq_of_getLsbD_eq
  intro i hi
  have hy := y.isLt
  have hz := z.isLt
  rw [pack_getLsbD _ _ _ i hi]
  -- bytes from words, words from half words
  refine (bitcast_getLsbD_ix2 _ _ y z i hi (by decide) (⟨y.val / 4, by omega⟩ : Fin 64) (8 * (y.val % 4) + i)
    (by dsimp only; omega) (by omega)).trans ?_
  refine (bitcast_getLsbD_ix2 _ _ (⟨y.val / 4, by omega⟩ : Fin 64) z _ (by omega) (by decide)
    (⟨y.val / 2, by omega⟩ : Fin 128) (8 * (y.val % 2) + i) (by dsimp only; omega) (by dsimp only; omega)).trans ?_
  -- the transpose of the half words, and the word each came from
  rw [transpose_ix2_apply]
  refine (bitcast_getLsbD_ix2 _ _ z (⟨y.val / 2, by omega⟩ : Fin 128) _ (by omega) (by decide)
    (⟨z.val / 2, by omega⟩ : Fin 64) (16 * (z.val % 2) + 8 * (y.val % 2) + i) (by dsimp only; omega) (by omega)).trans ?_
  -- the swap of the middle nibbles
  refine (swapNibbles_getLsbD (bitcast S64x128 32 (shapeCast S256x128 v shapeCasts_S1x256x128_S256x128)
    bitcasts_S256x128_w8_S64x128_w32 (ix2 (⟨z.val / 2, by omega⟩ : Fin 64) (⟨y.val / 2, by omega⟩ : Fin 128)))
    (16 * (z.val % 2) + 8 * (y.val % 2) + i) (by omega)).trans ?_
  have hbit : 16 * ((16 * (z.val % 2) + 8 * (y.val % 2) + i) / 16) + 8 * ((16 * (z.val % 2) + 8 * (y.val % 2) + i) / 4 % 2)
      + 4 * ((16 * (z.val % 2) + 8 * (y.val % 2) + i) / 8 % 2) + (16 * (z.val % 2) + 8 * (y.val % 2) + i) % 4
      = 16 * (z.val % 2) + 8 * (i / 4) + 4 * (y.val % 2) + i % 4 := by
    have e1 : (16 * (z.val % 2) + 8 * (y.val % 2) + i) / 16 = z.val % 2 := by omega
    have e2 : (16 * (z.val % 2) + 8 * (y.val % 2) + i) / 4 % 2 = i / 4 := by omega
    have e3 : (16 * (z.val % 2) + 8 * (y.val % 2) + i) / 8 % 2 = y.val % 2 := by omega
    have e4 : (16 * (z.val % 2) + 8 * (y.val % 2) + i) % 4 = i % 4 := by omega
    rw [e1, e2, e3, e4]
  rw [hbit]
  -- words from the loaded bytes
  refine (bitcast_getLsbD_ix2 _ _ (⟨z.val / 2, by omega⟩ : Fin 64) (⟨y.val / 2, by omega⟩ : Fin 128) _ (by omega) (by decide)
    (⟨2 * z.val + i / 4, by omega⟩ : Fin 256) (4 * (y.val % 2) + i % 4) (by dsimp only; omega) (by dsimp only; omega)).trans ?_
  rw [shapeCast_1ab_ab_apply]
  by_cases h4 : i < 4
  · rw [if_pos h4]
    congr 4
    omega
  · rw [if_neg h4]
    congr 4
    omega

/-- The scales' block stored: the loaded block with its last two axes exchanged. -/
theorem scales_apply (v : Vec F S1x112x512 .f32) (u : Fin 1) (n : Fin 512) (g : Fin 112) :
    k0_pay2 v (ix3 u n g) = v (ix3 (0 : Fin 1) g n) := by
  unfold k0_pay2
  dsimp only
  refine (shapeCast_ab_1ab_apply _ _ u n g).trans ?_
  rw [transpose_ix2_apply, shapeCast_1ab_ab_apply]

end Cert.KernelIdeal.Tile
-- ==== Proof.Block.lean ====
/-
  WHAT ONE GRID POINT COMPUTES.

  The body repacks its input block tile by tile: eight trips, each of fourteen tiles. Every tile stores the same
  function of the block (`blockVal`) at its own place, so the whole output block is that function.
-/
module

public import proofs.«01_k».proof.Proof.Repack
public import proofs.«01_k».proof.Proof.Gen.KernelIdeal.Frame
public import Idealize.ShloMosaic.Lib.Pipeline.ValueKit.Tiles
public import Idealize.ShloMosaic.Lib.WholeRead

@[expose] public section

noncomputable section

namespace Cert.KernelIdeal.Block

open Cert.KernelIdeal Cert.KernelIdeal.Gen Cert.KernelIdeal.Tile Cert.Repack
open Idealize.ShloMosaic Idealize.ShloMosaic.TcCoe Idealize.ShloMosaic.ValueIdx Idealize.SL.Sem

variable {F : FTy → Type} [FloatOps F]

/-- The repacked block as a function of the input block: row `y`, column `z` packs nibble `y % 2` of the bytes at rows
`2z` and `2z + 1` of column `y / 2`. -/
def blockVal (x0 : Vec F S1x3584x1024 .i8) : Vec F S1x2048x1792 .i8 := fun y =>
  pack ((y 1).val % 2)
    (x0 (ix3 (0 : Fin 1) (⟨2 * (y 2).val, by have : (y 2).val < 1792 := (y 2).isLt; omega⟩ : Fin 3584) (⟨(y 1).val / 2, by have : (y 1).val < 2048 := (y 1).isLt; omega⟩ : Fin 1024)))
    (x0 (ix3 (0 : Fin 1) (⟨2 * (y 2).val + 1, by have : (y 2).val < 1792 := (y 2).isLt; omega⟩ : Fin 3584) (⟨(y 1).val / 2, by have : (y 1).val < 2048 := (y 1).isLt; omega⟩ : Fin 1024)))

/-- The place of a tile: loaded at rows from `2b` and columns from `a`, it is stored at rows from `2a` and columns from
`b`. -/
def Placed (load store : Fin 3 → Nat) : Prop :=
  load 0 = 0 ∧ store 0 = 0 ∧ load 1 = 2 * store 2 ∧ store 1 = 2 * load 2

/-- A tile loaded from the block and stored repacked at its place holds there the repacked block. -/
theorem tile_placed (m : Memref sig .tc .vmem S1x3584x1024 .i8) (hm : m.IsWhole) (x0 : Vec F S1x3584x1024 .i8)
    (load store : Fin 3 → Nat) (inb : ∀ a, load a + S1x256x128.size a ≤ S1x3584x1024.size a)
    (hp : Placed load store) (y : S1x2048x1792.Idx) (w : S1x256x128.Idx → BitVec 8)
    (hw : w = k0_pay3 (F := F) (View.readAt (Elt F) m.view (Rect.unit (s := S1x3584x1024) load S1x256x128.size inb).toLoadRect (hm.unread x0))) :
    View.TileAt (Val := Elt F) (e := .i8) y store S1x256x128.size w (blockVal x0 y) := by
  intro x hx
  obtain ⟨h0, h0', h1, h2⟩ := hp
  have e1 := hx 1
  have e2 := hx 2
  subst hw
  rw [eq_ix3 x]
  refine (tile_apply _ _ _ _).trans ?_
  unfold blockVal
  have hpar : (x 1).val % 2 = (y 1).val % 2 := by omega
  rw [hpar]
  congr 1 <;>
  · rw [hm.readAt_unread]
    refine congrArg x0 (funext fun a => Fin.ext ?_)
    refine (Rect.idx_unit_val _ _ _ _ a).trans ?_
    match a with
    | ⟨0, _⟩ => exact h0
    | ⟨1, _⟩ => dsimp only; show load 1 + _ = _; omega
    | ⟨2, _⟩ => dsimp only; show load 2 + _ = _; omega

section
variable (𝒱 : Variants) (c : Dev nD) (bd : Option 𝒱.V) (i : grid0.Coords)
  (arg3 : Memref sig .tc .vmem S1x3584x1024 .i8) (harg3 : arg3.IsWhole) (arg4 : Memref sig .tc .vmem S1x112x512 .f32) (harg4 : arg4.IsWhole)
  (arg5 : Memref sig .tc .vmem S1x2048x1792 .i8) (harg5 : arg5.IsWhole) (arg6 : Memref sig .tc .vmem S1x512x112 .f32) (harg6 : arg6.IsWhole)
  (x0 : Vec F S1x3584x1024 .i8) (x1 : Vec F S1x112x512 .f32)

/-- Every tile stored by one trip holds the repacked block at its place. -/
theorem trip_allAt (k : Fin k0_t1_loop.trips) (y : S1x2048x1792.Idx) :
    View.AllAt (tripL_k0_t1 (F := F) 𝒱 c bd i arg3 harg3 arg4 harg4 arg5 harg5 arg6 harg6 (harg3.unread x0) k) y (blockVal x0 y) := by
  unfold tripL_k0_t1 trip_k0_t1
  dsimp only
  iterate 14
    refine View.allAt_cons_unit _ _ _ _ _ (tile_placed arg3 harg3 x0 _ _ _ ?_ y _ rfl) ?_
    · simp only [k0_off1_eq, k0_off2_eq, k0_off3_eq, k0_off4_eq, k0_off5_eq, k0_off6_eq, k0_off7_eq, k0_off8_eq, k0_off9_eq,
        k0_off10_eq, k0_off11_eq, k0_off12_eq, k0_off13_eq, k0_off14_eq, k0_off15_eq, k0_off16_eq, k0_off17_eq, k0_off18_eq,
        k0_off19_eq, k0_off20_eq, k0_off21_eq, k0_off22_eq, k0_off23_eq, k0_off24_eq, k0_off25_eq, k0_off26_eq, k0_off27_eq, k0_off28_eq]
      exact ⟨rfl, rfl, rfl, by show 256 * k.val = 2 * (128 * k.val); omega⟩
  exact View.allAt_nil _ _

/-- So does every tile stored by the trips before the `n`-th. -/
theorem trips_allAt (n : Nat) (hn : n ≤ k0_t1_loop.trips) (y : S1x2048x1792.Idx) :
    View.AllAt (pb_k0_t1 (F := F) 𝒱 c bd i arg3 harg3 arg4 harg4 arg5 harg5 arg6 harg6 (harg3.unread x0) n) y (blockVal x0 y) := by
  induction n with
  | zero => exact View.allAt_nil _ _
  | succ n ih =>
    rw [pb_k0_t1_succ 𝒱 c bd i arg3 harg3 arg4 harg4 arg5 harg5 arg6 harg6 (harg3.unread x0) ⟨n, hn⟩]
    intro p hp
    rcases List.mem_append.1 hp with hp | hp
    · exact trip_allAt 𝒱 c bd i arg3 harg3 arg4 harg4 arg5 harg5 arg6 harg6 x0 ⟨n, hn⟩ y p hp
    · exact ih (Nat.le_of_succ_le hn) p hp

/-- The first output block after the body is the repacked input block. -/
theorem out2_eq : out0_A_2 (F := F) c i arg3 harg3 arg4 harg4 arg5 harg5 arg6 harg6 x0 x1 = blockVal x0 := by
  unfold out0_A_2
  rw [View.read_writes_eq_canon _ _ _ (cover0_A_2 c i arg3 harg3 arg4 harg4 arg5 harg5 arg6 harg6 x0 x1)]
  funext y
  refine View.canon_eq_of_allAt _ y _ (cover0_A_2 c i arg3 harg3 arg4 harg4 arg5 harg5 arg6 harg6 x0 x1 y) ?_
  unfold kernelRun0_A
  dsimp only
  exact trips_allAt _ c _ i arg3 harg3 arg4 harg4 arg5 harg5 arg6 harg6 x0 _ (le_of_eq rfl) y

/-- The second output block after the body is the scales' block with its last two axes exchanged. -/
theorem out3_apply (u : Fin 1) (n : Fin 512) (g : Fin 112) :
    out0_A_3 (F := F) c i arg3 harg3 arg4 harg4 arg5 harg5 arg6 harg6 x0 x1 (ix3 u n g) = x1 (ix3 (0 : Fin 1) g n) := by
  unfold out0_A_3
  rw [View.read_writes_eq_canon _ _ _ (cover0_A_3 c i arg3 harg3 arg4 harg4 arg5 harg5 arg6 harg6 x0 x1)]
  refine View.canon_eq_of_allAt _ _ _ (cover0_A_3 c i arg3 harg3 arg4 harg4 arg5 harg5 arg6 harg6 x0 x1 _) ?_
  unfold kernelRun0_A
  dsimp only
  refine View.allAt_cons_unit _ _ _ _ _ (fun x hx => ?_) (View.allAt_nil _ _)
  have e1 : n.val = 0 + (x 1).val := hx 1
  have e2 : g.val = 0 + (x 2).val := hx 2
  rw [eq_ix3 x]
  refine (scales_apply _ _ _ _).trans ?_
  rw [harg4.readAt_unread]
  refine congrArg x1 (funext fun a => Fin.ext ?_)
  refine (Rect.idx_unit_val _ _ _ _ a).trans ?_
  match a with
  | ⟨0, _⟩ => rfl
  | ⟨1, _⟩ => exact e2.symm
  | ⟨2, _⟩ => exact e1.symm

end

end Cert.KernelIdeal.Block

end
-- ==== Proof.Array.lean ====
/-
  WHAT THE ARRAYS HOLD AFTER THE RUN.

  The grid's points cover both result arrays, one block each. Read at an index, each result is one function of the
  arguments: the weights repacked (`packed`), the scales with their last two axes exchanged.
-/
module

public import proofs.«01_k».proof.Proof.Block
public import proofs.«01_k».proof.Proof.Gen.KernelIdeal.Value

@[expose] public section

noncomputable section

namespace Cert.Repack

open Idealize.ShloMosaic Idealize.ShloMosaic.ValueIdx

/-- The repacked weights, at an index: row `y`, column `z` packs nibble `y % 2` of the bytes at rows `2z` and `2z + 1` of
column `y / 2`. -/
def packed (w : (⟨3, ![3, 14336, 4096]⟩ : Shape).Idx → BitVec 8) (i : Fin 3) (y : Fin 8192) (z : Fin 7168) : BitVec 8 :=
  pack (y.val % 2) (w (ix3 i (⟨2 * z.val, by omega⟩ : Fin 14336) (⟨y.val / 2, by omega⟩ : Fin 4096)))
    (w (ix3 i (⟨2 * z.val + 1, by omega⟩ : Fin 14336) (⟨y.val / 2, by omega⟩ : Fin 4096)))

end Cert.Repack

namespace Cert.KernelIdeal.Arr

open Cert.KernelIdeal Cert.KernelIdeal.Gen Cert.KernelIdeal.Block Cert.Repack
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The block each window is on at grid point `t`, in the point's three coordinates. -/
theorem idx_facts : ∀ t : Fin cfg0.N,
    (win0_0.index t (0 : Fin 3) = win0_2.index t (0 : Fin 3) ∧ win0_0.index t (1 : Fin 3) = win0_2.index t (2 : Fin 3)
      ∧ win0_0.index t (2 : Fin 3) = win0_2.index t (1 : Fin 3))
    ∧ (win0_1.index t (0 : Fin 3) = win0_3.index t (0 : Fin 3) ∧ win0_1.index t (1 : Fin 3) = 0
      ∧ win0_1.index t (2 : Fin 3) = win0_3.index t (1 : Fin 3) ∧ win0_3.index t (2 : Fin 3) = 0) :=
  (by decide +kernel : ∀ t : Fin grid0.N, _)

/-- Every block of the first result is some grid point's. -/
theorem point2 : ∀ (a : Fin 3) (b : Fin 4) (c : Fin 4), ∃ t : Fin cfg0.N,
    win0_2.index t (0 : Fin 3) = a.val ∧ win0_2.index t (1 : Fin 3) = b.val ∧ win0_2.index t (2 : Fin 3) = c.val :=
  (by decide +kernel : ∀ (a : Fin 3) (b : Fin 4) (c : Fin 4), ∃ t : Fin grid0.N, _)

/-- Every block of the second result is some grid point's. -/
theorem point3 : ∀ (a : Fin 3) (b : Fin 16), ∃ t : Fin cfg0.N,
    win0_3.index t (0 : Fin 3) = a.val ∧ win0_3.index t (1 : Fin 3) = b.val :=
  (by decide +kernel : ∀ (a : Fin 3) (b : Fin 16), ∃ t : Fin grid0.N, _)

/-- The first result array after the run is the weights repacked. -/
theorem packed_apply (c : Dev nD) (i : Fin 3) (y : Fin 8192) (z : Fin 7168) :
    (dats m 0 c).arrAt 2 cfg0.N (ix3 i y z) = packed (m ((c : Thread nD τ).loc main_arg0)) i y z := by
  obtain ⟨t, h0, h1, h2⟩ := point2 i (⟨y.val / 2048, by omega⟩ : Fin 4) (⟨z.val / 1792, by omega⟩ : Fin 4)
  obtain ⟨⟨f0, f1, f2⟩, _⟩ := idx_facts t
  have b := congrFun ((Value.blocks2 m c t (flush0_2 t)).trans (Value.flushed2_A m c t))
    (ix3 (0 : Fin 1) (⟨y.val % 2048, by omega⟩ : Fin 2048) (⟨z.val % 1792, by omega⟩ : Fin 1792))
  have e : ((cfg0.win 2).blk t).view.emb (ix3 (0 : Fin 1) (⟨y.val % 2048, by omega⟩ : Fin 2048) (⟨z.val % 1792, by omega⟩ : Fin 1792)) = ix3 i y z := by
    funext a; apply Fin.ext
    match a with
    | ⟨0, _⟩ => show win0_2.index t (0 : Fin 3) * 1 + 1 * 0 = i.val; omega
    | ⟨1, _⟩ => show win0_2.index t (1 : Fin 3) * 2048 + 1 * (y.val % 2048) = y.val; dsimp only at h1; omega
    | ⟨2, _⟩ => show win0_2.index t (2 : Fin 3) * 1792 + 1 * (z.val % 1792) = z.val; dsimp only at h2; omega
  rw [← e]
  refine b.trans ?_
  rw [out2_eq]
  show blockVal (iblk m c 0 t) (ix3 (0 : Fin 1) (⟨y.val % 2048, by omega⟩ : Fin 2048) (⟨z.val % 1792, by omega⟩ : Fin 1792)) = _
  unfold blockVal packed
  have hpar : (y.val % 2048) % 2 = y.val % 2 := by omega
  dsimp only at h1 h2
  show pack ((y.val % 2048) % 2) _ _ = _
  rw [hpar]
  congr 1 <;>
  · show V m c main_arg0 (((cfg0.win 0).blk t).view.emb _) = m ((c : Thread nD τ).loc main_arg0) _
    rw [V_main_arg0]
    refine congrArg _ (funext fun a => Fin.ext ?_)
    match a with
    | ⟨0, _⟩ => show win0_0.index t (0 : Fin 3) * 1 + 1 * 0 = i.val; omega
    | ⟨1, _⟩ => first
        | (show win0_0.index t (1 : Fin 3) * 3584 + 1 * (2 * (z.val % 1792)) = 2 * z.val; omega)
        | (show win0_0.index t (1 : Fin 3) * 3584 + 1 * (2 * (z.val % 1792) + 1) = 2 * z.val + 1; omega)
    | ⟨2, _⟩ => show win0_0.index t (2 : Fin 3) * 1024 + 1 * ((y.val % 2048) / 2) = y.val / 2; omega

/-- The second result array after the run is the scales with their last two axes exchanged. -/
theorem scales_apply (c : Dev nD) (i : Fin 3) (n : Fin 8192) (g : Fin 112) :
    (dats m 0 c).arrAt 3 cfg0.N (ix3 i n g) = m ((c : Thread nD τ).loc main_arg1) (ix3 i g n) := by
  obtain ⟨t, h0, h1⟩ := point3 i (⟨n.val / 512, by omega⟩ : Fin 16)
  obtain ⟨_, f0, f1, f2, f3⟩ := idx_facts t
  dsimp only at h1
  have b := congrFun ((Value.blocks3 m c t (flush0_3 t)).trans (Value.flushed3_A m c t))
    (ix3 (0 : Fin 1) (⟨n.val % 512, by omega⟩ : Fin 512) g)
  have e : ((cfg0.win 3).blk t).view.emb (ix3 (0 : Fin 1) (⟨n.val % 512, by omega⟩ : Fin 512) g) = ix3 i n g := by
    funext a; apply Fin.ext
    match a with
    | ⟨0, _⟩ => show win0_3.index t (0 : Fin 3) * 1 + 1 * 0 = i.val; omega
    | ⟨1, _⟩ => show win0_3.index t (1 : Fin 3) * 512 + 1 * (n.val % 512) = n.val; omega
    | ⟨2, _⟩ => show win0_3.index t (2 : Fin 3) * 112 + 1 * g.val = g.val; omega
  rw [← e]
  refine b.trans ?_
  refine (out3_apply c (grid0.coords t) (ms0_0 t) (hs0_0 t) (ms0_1 t) (hs0_1 t) (ms0_2 t) (hs0_2 t) (ms0_3 t) (hs0_3 t)
    (iblk m c 0 t) (iblk m c 1 t) (0 : Fin 1) (⟨n.val % 512, by omega⟩ : Fin 512) g).trans ?_
  show V m c main_arg1 (((cfg0.win 1).blk t).view.emb _) = m ((c : Thread nD τ).loc main_arg1) _
  rw [V_main_arg1]
  refine congrArg _ (funext fun a => Fin.ext ?_)
  match a with
  | ⟨0, _⟩ => show win0_1.index t (0 : Fin 3) * 1 + 1 * 0 = i.val; omega
  | ⟨1, _⟩ => show win0_1.index t (1 : Fin 3) * 112 + 1 * g.val = g.val; omega
  | ⟨2, _⟩ => show win0_1.index t (2 : Fin 3) * 512 + 1 * (n.val % 512) = n.val; omega

end Cert.KernelIdeal.Arr

end
-- ==== Proof.Reference.lean ====
/-
  WHAT THE REFERENCE COMPUTES.

  The reference takes the low halves and the high halves of all bytes, joins those of neighbouring rows, and lays the
  results out transposed. Read at an index, its two results are the same functions of the arguments as the kernel's.
-/
module

public import proofs.«01_k».proof.Proof.Array
public import proofs.«01_k».proof.Proof.Gen.ReferenceIdeal.Run

@[expose] public section

noncomputable section

namespace Cert.ReferenceIdeal.Ref

open Cert.ReferenceIdeal Cert.ReferenceIdeal.Gen Cert.Repack
open Idealize.ShloMosaic Idealize.ShloMosaic.TcCoe Idealize.ShloMosaic.ValueIdx Idealize.SL.Sem

variable {F : FTy → Type} [FloatOps F]

/-- Neighbouring rows of a matrix of 4-bit numbers joined: the odd row shifted left by four, or the even row. -/
def joined (x : IVec S3x14336x4096 32) : IVec S3x7168x4096 32 :=
  ori (shapeCast _ (extractStridedSlice S3x7168x1x4096 ![0, 0, 0, 0] (shapeCast _ x shapeCasts_S3x14336x4096_S3x7168x2x4096) slices_S3x7168x2x4096_S3x7168x1x4096_0_0_0_0) shapeCasts_S3x7168x1x4096_S3x7168x4096)
    (Host.shli (shapeCast _ (extractStridedSlice S3x7168x1x4096 ![0, 0, 1, 0] (shapeCast _ x shapeCasts_S3x14336x4096_S3x7168x2x4096) slices_S3x7168x2x4096_S3x7168x1x4096_0_0_1_0) shapeCasts_S3x7168x1x4096_S3x7168x4096)
      (broadcastInDim S3x7168x4096 ![] bcast_S_S3x7168x4096 (constantI S_ 32 4#32)))

/-- Two matrices interleaved as columns and the whole transposed, each element cut to its low byte. -/
def laidOut (lo hi : IVec S3x7168x4096 32) : IVec S3x8192x7168 8 :=
  trunci 8 (shapeCast _ (transpose S3x4096x2x7168 [0, 2, 3, 1] (concatenate S3x7168x4096x2 3
    [⟨S3x7168x4096x1, broadcastInDim S3x7168x4096x1 ![0, 1, 2] bcast_S3x7168x4096_S3x7168x4096x1_0_1_2 lo⟩,
     ⟨S3x7168x4096x1, broadcastInDim S3x7168x4096x1 ![0, 1, 2] bcast_S3x7168x4096_S3x7168x4096x1_0_1_2 hi⟩]
    concatenates_S3x7168x4096x1_S3x7168x4096x1_S3x7168x4096x2_d3) transposes_S3x7168x4096x2_S3x4096x2x7168_0_2_3_1) shapeCasts_S3x4096x2x7168_S3x8192x7168) natLt_8_32

/-- The low 4-bit numbers of the bytes. -/
def low (w : IVec S3x14336x4096 8) : IVec S3x14336x4096 32 :=
  andi (extui 32 w natLt_8_32) (broadcastInDim S3x14336x4096 ![] bcast_S_S3x14336x4096 (constantI S_ 32 15#32))

/-- The high 4-bit numbers of the bytes. -/
def high (w : IVec S3x14336x4096 8) : IVec S3x14336x4096 32 :=
  Host.shrui (extui 32 w natLt_8_32) (broadcastInDim S3x14336x4096 ![] bcast_S_S3x14336x4096 (constantI S_ 32 4#32))

/-- The index of the source row `r` of the pair `z`: the matrix with its rows in pairs, one row of each pair taken. -/
theorem row_apply (x : IVec S3x14336x4096 32) (r : Nat) (hr : r < 2)
    (hs : S3x7168x2x4096.Slices ![0, 0, r, 0] S3x7168x1x4096) (i : Fin 3) (z : Fin 7168) (j : Fin 4096) :
    shapeCast S3x7168x4096 (extractStridedSlice S3x7168x1x4096 ![0, 0, r, 0] (shapeCast S3x7168x2x4096 x shapeCasts_S3x14336x4096_S3x7168x2x4096) hs) shapeCasts_S3x7168x1x4096_S3x7168x4096 (ix3 i z j)
      = x (ix3 i (⟨2 * z.val + r, by omega⟩ : Fin 14336) j) := by
  refine (shapeCast_apply _ _ _ (ix4 i z (0 : Fin 1) j) ?_).trans ?_
  · rw [Shape.rowMajor_val_four, Shape.rowMajor_val_three]
    show ((i.val * 7168 + z.val) * 1 + 0) * 4096 + j.val = (i.val * 7168 + z.val) * 4096 + j.val
    omega
  · refine shapeCast_apply x _ _ _ ?_
    rw [Shape.rowMajor_val_four, Shape.rowMajor_val_three]
    show (i.val * 14336 + (2 * z.val + r)) * 4096 + j.val
      = (((0 + i.val) * 7168 + (0 + z.val)) * 2 + (r + 0)) * 4096 + (0 + j.val)
    omega

/-- The joined rows at an index. -/
theorem joined_apply (x : IVec S3x14336x4096 32) (i : Fin 3) (z : Fin 7168) (j : Fin 4096) :
    joined x (ix3 i z j) = x (ix3 i (⟨2 * z.val, by omega⟩ : Fin 14336) j) ||| (x (ix3 i (⟨2 * z.val + 1, by omega⟩ : Fin 14336) j) <<< 4) := by
  unfold joined
  show (shapeCast S3x7168x4096 _ _ (ix3 i z j)) ||| IntOp.shli .host (shapeCast S3x7168x4096 _ _ (ix3 i z j)) 4#32 = _
  rw [row_apply x 0 (by decide), row_apply x 1 (by decide), shli_host]
  rfl

/-- The laid out bytes at an index: row `y` is column `y / 2` of one of the two matrices, by `y`'s parity. -/
theorem laidOut_apply (lo hi : IVec S3x7168x4096 32) (i : Fin 3) (y : Fin 8192) (z : Fin 7168) :
    laidOut lo hi (ix3 i y z)
      = ((if y.val % 2 = 0 then lo else hi) (ix3 i z (⟨y.val / 2, by omega⟩ : Fin 4096))).setWidth 8 := by
  unfold laidOut
  show BitVec.setWidth 8 (shapeCast S3x8192x7168 _ _ (ix3 i y z)) = _
  congr 1
  refine (shapeCast_apply _ _ _ (ix4 i (⟨y.val / 2, by omega⟩ : Fin 4096) (⟨y.val % 2, by omega⟩ : Fin 2) z) ?_).trans ?_
  · rw [Shape.rowMajor_val_four, Shape.rowMajor_val_three]
    show ((i.val * 4096 + y.val / 2) * 2 + y.val % 2) * 7168 + z.val = (i.val * 8192 + y.val) * 7168 + z.val
    omega
  refine (transpose_apply _ _ _ _ (ix4 i z (⟨y.val / 2, by omega⟩ : Fin 4096) (⟨y.val % 2, by omega⟩ : Fin 2))
    (fun b => match b with | ⟨0, _⟩ => rfl | ⟨1, _⟩ => rfl | ⟨2, _⟩ => rfl | ⟨3, _⟩ => rfl)).trans ?_
  concat_tiles x h
  · rw [if_pos h]
    refine broadcastInDim_apply _ _ _ _ _ fun a => ?_
    match a with
    | ⟨0, _⟩ => exact h0.symm
    | ⟨1, _⟩ => exact h1.symm
    | ⟨2, _⟩ => exact h2.symm
  · have hp : y.val % 2 = 1 := h
    rw [if_neg (by omega)]
    refine broadcastInDim_apply _ _ _ _ _ fun a => ?_
    match a with
    | ⟨0, _⟩ => exact h0.symm
    | ⟨1, _⟩ => exact h1.symm
    | ⟨2, _⟩ => exact h2.symm

/-- Low halves joined as words and cut to a byte are the packed low nibbles. -/
theorem join_low (a b : BitVec 8) :
    ((a.setWidth 32 &&& 15#32) ||| ((b.setWidth 32 &&& 15#32) <<< 4)).setWidth 8 = pack 0 a b := by
  apply BitVec.eq_of_getLsbD_eq
  intro i hi
  rw [pack_getLsbD _ _ _ i hi]
  simp only [BitVec.getLsbD_setWidth, BitVec.getLsbD_or, BitVec.getLsbD_and, BitVec.getLsbD_shiftLeft]
  interval_cases i <;> simp

/-- High halves joined as words and cut to a byte are the packed high nibbles. -/
theorem join_high (a b : BitVec 8) :
    ((a.setWidth 32 >>> 4) ||| ((b.setWidth 32 >>> 4) <<< 4)).setWidth 8 = pack 1 a b := by
  apply BitVec.eq_of_getLsbD_eq
  intro i hi
  rw [pack_getLsbD _ _ _ i hi]
  simp only [BitVec.getLsbD_setWidth, BitVec.getLsbD_or, BitVec.getLsbD_ushiftRight, BitVec.getLsbD_shiftLeft]
  interval_cases i <;> simp

/-- The reference's first result is the weights repacked. -/
theorem packed_apply (w : IVec S3x14336x4096 8) (i : Fin 3) (y : Fin 8192) (z : Fin 7168) :
    laidOut (joined (low w)) (joined (high w)) (ix3 i y z) = packed w i y z := by
  rw [laidOut_apply]
  unfold packed
  by_cases h : y.val % 2 = 0
  · rw [if_pos h, h, joined_apply]
    exact join_low _ _
  · have h1 : y.val % 2 = 1 := by omega
    rw [if_neg h, h1, joined_apply]
    unfold high
    show ((IntOp.shrui .host _ 4#32) ||| ((IntOp.shrui .host _ 4#32) <<< 4)).setWidth 8 = _
    rw [shrui_host, shrui_host]
    exact join_high _ _

/-- The reference's run, its first result named by these steps. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
        = laidOut (joined (low (m ((c.tc : Thread nD τ).loc main_arg0)))) (joined (high (m ((c.tc : Thread nD τ).loc main_arg0))))
      ∧ r.2.mem ((c.tc : Thread nD τ).loc main_v27)
        = transpose S3x8192x112 [0, 2, 1] (m ((c.tc : Thread nD τ).loc main_arg1)) transposes_S3x112x8192_S3x8192x112_0_2_1
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Cert.ReferenceIdeal.Ref

end
-- ==== Proof.Equation.lean ====
/-
  THE EQUATION: kernel and reference end with the same results.
-/
module

public import proofs.«01_k».proof.Defs
public import proofs.«01_k».proof.Proof.Array
public import proofs.«01_k».proof.Proof.Reference
public import Idealize.ShloMosaic.Lib.Quiescent

@[expose] public section

noncomputable section

namespace Cert.Proof

open Idealize.ShloMosaic Idealize.ShloMosaic.TcCoe Idealize.ShloMosaic.ValueIdx Idealize.SL.Sem

/-- The reference runs, leaves its arguments as they were and every counter at zero (it declares none). -/
theorem frame_reference : Cert.quiescent_ReferenceIdeal := fun m ρ _ =>
  (θ_run Cert.ReferenceIdeal.defs _ _).mono (fun r h => ⟨fun c => ⟨(h c).2.2.1, (h c).2.2.2⟩,
      sem_eq_zero_of_no_sems (by decide) r.2⟩)
    (Cert.ReferenceIdeal.Ref.run (F := Ideal) m ρ)

/-- From memories agreeing on the arguments, the idealized kernel and the reference end with equal results: the first is
the weights repacked, the second the scales with their last two axes exchanged. -/
theorem algebraic : Cert.algebraic_KernelIdeal_ReferenceIdeal := by
  intro m ρ m' ρ' _ hagree
  refine ⟨_, _, Cert.KernelIdeal.Value.run_blocks (F := Ideal) m ρ, ?_⟩
  refine (θ_run Cert.ReferenceIdeal.defs _ _).mono (fun _ h c => ⟨(h c).1.trans ?_, (h c).2.1.trans ?_, (h c).2.2⟩)
    (Cert.ReferenceIdeal.Ref.run (F := Ideal) m' ρ')
  · refine funext fun j => ?_
    rw [eq_ix3 j, (hagree c).1]
    exact (Cert.ReferenceIdeal.Ref.packed_apply _ _ _ _).trans (Cert.KernelIdeal.Arr.packed_apply m c _ _ _).symm
  · refine funext fun j => ?_
    rw [eq_ix3 j, (hagree c).2]
    exact (transpose_ix3_021_apply _ _ _ _ _).trans (Cert.KernelIdeal.Arr.scales_apply m c _ _ _).symm

end Cert.Proof

end
-- ==== Proof.lean ====
/-
  THE CLAIM: the int4 repack kernel terminates, leaves its arguments alone, and ends with the results of the plain
  repacking. The frames of the kernel and of its ideal program are the generated ones; the reference's frame and the
  equation of the results are `Proof.Equation`'s.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- All five claims: the frames of kernel, ideal kernel and reference, the kernel's ideal program being the kernel's own,
and kernel and reference ending with equal results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  algebraic⟩

end Cert.Proof

end
